-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.bf16_pair.HalfStatement Cert.KernelIdeal.S128x256
  ∧ IdealRules.bf16_pair.Statement Cert.KernelIdeal.S256x256 Cert.KernelIdeal.S128x256

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x1x17920 : Shape := ⟨3, ![32, 1, 17920]⟩
abbrev S8960x2560 : Shape := ⟨2, ![8960, 2560]⟩
abbrev S140x2560 : Shape := ⟨2, ![140, 2560]⟩
abbrev S32x2x8960 : Shape := ⟨3, ![32, 2, 8960]⟩
abbrev S32x8960x2 : Shape := ⟨3, ![32, 8960, 2]⟩
abbrev S32x17920 : Shape := ⟨2, ![32, 17920]⟩
abbrev S2x7x10x2560 : Shape := ⟨4, ![2, 7, 10, 2560]⟩
abbrev S32x2560 : Shape := ⟨2, ![32, 2560]⟩
abbrev S1280x2560 : Shape := ⟨2, ![1280, 2560]⟩
abbrev S2x1x10x2560 : Shape := ⟨4, ![2, 1, 10, 2560]⟩
abbrev S32x5120 : Shape := ⟨2, ![32, 5120]⟩
abbrev S128x256 : Shape := ⟨2, ![128, 256]⟩
abbrev S32x256 : Shape := ⟨2, ![32, 256]⟩
abbrev S32x8x256 : Shape := ⟨3, ![32, 8, 256]⟩
abbrev S32x1x256 : Shape := ⟨3, ![32, 1, 256]⟩
abbrev S256x256 : Shape := ⟨2, ![256, 256]⟩
abbrev S1x1x1x256 : Shape := ⟨4, ![1, 1, 1, 256]⟩
abbrev S1x256 : Shape := ⟨2, ![1, 256]⟩
abbrev S2560x256 : Shape := ⟨2, ![2560, 256]⟩

abbrev nBuf : Space → Nat
  | .hbm => 11
  | .vmem => 12
  | .smem => 0
  | _ => 0

abbrev bufTy : (tb : Table) → Fin (tcTables nBuf tb) → BufTy
  | .hbm, ⟨0, _⟩ => ⟨S32x1x17920, .bf16⟩
  | .hbm, ⟨1, _⟩ => ⟨S8960x2560, .i8⟩
  | .hbm, ⟨2, _⟩ => ⟨S140x2560, .bf16⟩
  | .hbm, ⟨3, _⟩ => ⟨S8960x2560, .i8⟩
  | .hbm, ⟨4, _⟩ => ⟨S140x2560, .bf16⟩
  | .hbm, ⟨5, _⟩ => ⟨S32x2x8960, .bf16⟩
  | .hbm, ⟨6, _⟩ => ⟨S32x8960x2, .bf16⟩
  | .hbm, ⟨7, _⟩ => ⟨S32x17920, .bf16⟩
  | .hbm, ⟨8, _⟩ => ⟨S2x7x10x2560, .bf16⟩
  | .hbm, ⟨9, _⟩ => ⟨S2x7x10x2560, .bf16⟩
  | .hbm, ⟨10, _⟩ => ⟨S32x2560, .bf16⟩
  | .local _ .vmem, ⟨0, _⟩ => ⟨S32x2560, .bf16⟩
  | .local _ .vmem, ⟨1, _⟩ => ⟨S32x2560, .bf16⟩
  | .local _ .vmem, ⟨2, _⟩ => ⟨S1280x2560, .i8⟩
  | .local _ .vmem, ⟨3, _⟩ => ⟨S1280x2560, .i8⟩
  | .local _ .vmem, ⟨4, _⟩ => ⟨S2x1x10x2560, .bf16⟩
  | .local _ .vmem, ⟨5, _⟩ => ⟨S2x1x10x2560, .bf16⟩
  | .local _ .vmem, ⟨6, _⟩ => ⟨S1280x2560, .i8⟩
  | .local _ .vmem, ⟨7, _⟩ => ⟨S1280x2560, .i8⟩
  | .local _ .vmem, ⟨8, _⟩ => ⟨S2x1x10x2560, .bf16⟩
  | .local _ .vmem, ⟨9, _⟩ => ⟨S2x1x10x2560, .bf16⟩
  | .local _ .vmem, ⟨10, _⟩ => ⟨S32x2560, .bf16⟩
  | .local _ .vmem, ⟨11, _⟩ => ⟨S32x5120, .f32⟩
  | _, _ => ⟨S32x1x17920, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10

abbrev nD : Nat := 1
abbrev τ : Topo := Topo.v7x

variable {F : FTy → Type} [BitOps F]

abbrev grid0 : Pipeline.Grid := ⟨1, ![7], ![false]⟩

def k0_cond2 (i : grid0.Coords) : BitVec 1 :=
  let arg0 : BitVec 32 := BitVec.ofNat 32 (i 0).val
  let c6_i32 : BitVec 32 := 6#32
  let v6383 : BitVec 1 := Scalar.cmpi .eq arg0 c6_i32
  let v6384 : BitVec 32 := Scalar.extui v6383
  let c0_i32_2703 : BitVec 32 := 0#32
  let v6385 : BitVec 1 := Scalar.cmpi .ne v6384 c0_i32_2703
  v6385

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S32x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1280x2560 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x1x10x2560 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1280x2560 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x1x10x2560 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S32x2560 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== KernelIdeal.lean ====
variable {F : FTy → Type} [FloatOps F]
-- ==== ReferenceIdeal.lean ====
abbrev S32x1x17920 : Shape := ⟨3, ![32, 1, 17920]⟩
abbrev S8960x2560 : Shape := ⟨2, ![8960, 2560]⟩
abbrev S140x2560 : Shape := ⟨2, ![140, 2560]⟩
abbrev S_ : Shape := ⟨0, ![]⟩
abbrev S70x2560 : Shape := ⟨2, ![70, 2560]⟩
abbrev S70x128x2560 : Shape := ⟨3, ![70, 128, 2560]⟩
abbrev S70x1x2560 : Shape := ⟨3, ![70, 1, 2560]⟩
abbrev S32x1x8960 : Shape := ⟨3, ![32, 1, 8960]⟩
abbrev S32x1x2560 : Shape := ⟨3, ![32, 1, 2560]⟩
abbrev S32x2560 : Shape := ⟨2, ![32, 2560]⟩

abbrev nBuf : Space → Nat
  | .hbm => 81
  | .vmem => 0
  | .smem => 0
  | _ => 0

abbrev bufTy : (tb : Table) → Fin (tcTables nBuf tb) → BufTy
  | .hbm, ⟨0, _⟩ => ⟨S32x1x17920, .bf16⟩
  | .hbm, ⟨1, _⟩ => ⟨S8960x2560, .i8⟩
  | .hbm, ⟨2, _⟩ => ⟨S140x2560, .bf16⟩
  | .hbm, ⟨3, _⟩ => ⟨S8960x2560, .i8⟩
  | .hbm, ⟨4, _⟩ => ⟨S140x2560, .bf16⟩
  | .hbm, ⟨5, _⟩ => ⟨S8960x2560, .i32⟩
  | .hbm, ⟨6, _⟩ => ⟨S_, .i32⟩
  | .hbm, ⟨7, _⟩ => ⟨S8960x2560, .i32⟩
  | .hbm, ⟨8, _⟩ => ⟨S8960x2560, .i32⟩
  | .hbm, ⟨9, _⟩ => ⟨S_, .i32⟩
  | .hbm, ⟨10, _⟩ => ⟨S8960x2560, .i32⟩
  | .hbm, ⟨11, _⟩ => ⟨S8960x2560, .i32⟩
  | .hbm, ⟨12, _⟩ => ⟨S70x2560, .bf16⟩
  | .hbm, ⟨13, _⟩ => ⟨S8960x2560, .bf16⟩
  | .hbm, ⟨14, _⟩ => ⟨S_, .bf16⟩
  | .hbm, ⟨15, _⟩ => ⟨S8960x2560, .bf16⟩
  | .hbm, ⟨16, _⟩ => ⟨S8960x2560, .bf16⟩
  | .hbm, ⟨17, _⟩ => ⟨S70x128x2560, .bf16⟩
  | .hbm, ⟨18, _⟩ => ⟨S70x1x2560, .bf16⟩
  | .hbm, ⟨19, _⟩ => ⟨S70x128x2560, .bf16⟩
  | .hbm, ⟨20, _⟩ => ⟨S70x128x2560, .bf16⟩
  | .hbm, ⟨21, _⟩ => ⟨S8960x2560, .bf16⟩
  | .hbm, ⟨22, _⟩ => ⟨S70x2560, .bf16⟩
  | .hbm, ⟨23, _⟩ => ⟨S8960x2560, .bf16⟩
  | .hbm, ⟨24, _⟩ => ⟨S_, .bf16⟩
  | .hbm, ⟨25, _⟩ => ⟨S8960x2560, .bf16⟩
  | .hbm, ⟨26, _⟩ => ⟨S8960x2560, .bf16⟩
  | .hbm, ⟨27, _⟩ => ⟨S70x128x2560, .bf16⟩
  | .hbm, ⟨28, _⟩ => ⟨S70x1x2560, .bf16⟩
  | .hbm, ⟨29, _⟩ => ⟨S70x128x2560, .bf16⟩
  | .hbm, ⟨30, _⟩ => ⟨S70x128x2560, .bf16⟩
  | .hbm, ⟨31, _⟩ => ⟨S8960x2560, .bf16⟩
  | .hbm, ⟨32, _⟩ => ⟨S32x1x8960, .bf16⟩
  | .hbm, ⟨33, _⟩ => ⟨S32x1x2560, .f32⟩
  | .hbm, ⟨34, _⟩ => ⟨S32x1x8960, .bf16⟩
  | .hbm, ⟨35, _⟩ => ⟨S32x1x2560, .f32⟩
  | .hbm, ⟨36, _⟩ => ⟨S32x1x2560, .f32⟩
  | .hbm, ⟨37, _⟩ => ⟨S8960x2560, .i32⟩
  | .hbm, ⟨38, _⟩ => ⟨S_, .i32⟩
  | .hbm, ⟨39, _⟩ => ⟨S8960x2560, .i32⟩
  | .hbm, ⟨40, _⟩ => ⟨S8960x2560, .i32⟩
  | .hbm, ⟨41, _⟩ => ⟨S_, .i32⟩
  | .hbm, ⟨42, _⟩ => ⟨S8960x2560, .i32⟩
  | .hbm, ⟨43, _⟩ => ⟨S8960x2560, .i32⟩
  | .hbm, ⟨44, _⟩ => ⟨S70x2560, .bf16⟩
  | .hbm, ⟨45, _⟩ => ⟨S8960x2560, .bf16⟩
  | .hbm, ⟨46, _⟩ => ⟨S_, .bf16⟩
  | .hbm, ⟨47, _⟩ => ⟨S8960x2560, .bf16⟩
  | .hbm, ⟨48, _⟩ => ⟨S8960x2560, .bf16⟩
  | .hbm, ⟨49, _⟩ => ⟨S70x128x2560, .bf16⟩
  | .hbm, ⟨50, _⟩ => ⟨S70x1x2560, .bf16⟩
  | .hbm, ⟨51, _⟩ => ⟨S70x128x2560, .bf16⟩
  | .hbm, ⟨52, _⟩ => ⟨S70x128x2560, .bf16⟩
  | .hbm, ⟨53, _⟩ => ⟨S8960x2560, .bf16⟩
  | .hbm, ⟨54, _⟩ => ⟨S70x2560, .bf16⟩
  | .hbm, ⟨55, _⟩ => ⟨S8960x2560, .bf16⟩
  | .hbm, ⟨56, _⟩ => ⟨S_, .bf16⟩
  | .hbm, ⟨57, _⟩ => ⟨S8960x2560, .bf16⟩
  | .hbm, ⟨58, _⟩ => ⟨S8960x2560, .bf16⟩
  | .hbm, ⟨59, _⟩ => ⟨S70x128x2560, .bf16⟩
  | .hbm, ⟨60, _⟩ => ⟨S70x1x2560, .bf16⟩
  | .hbm, ⟨61, _⟩ => ⟨S70x128x2560, .bf16⟩
  | .hbm, ⟨62, _⟩ => ⟨S70x128x2560, .bf16⟩
  | .hbm, ⟨63, _⟩ => ⟨S8960x2560, .bf16⟩
  | .hbm, ⟨64, _⟩ => ⟨S32x1x8960, .bf16⟩
  | .hbm, ⟨65, _⟩ => ⟨S32x1x2560, .f32⟩
  | .hbm, ⟨66, _⟩ => ⟨S32x1x8960, .bf16⟩
  | .hbm, ⟨67, _⟩ => ⟨S32x1x2560, .f32⟩
  | .hbm, ⟨68, _⟩ => ⟨S32x1x2560, .f32⟩
  | .hbm, ⟨69, _⟩ => ⟨S32x1x2560, .f32⟩
  | .hbm, ⟨70, _⟩ => ⟨S32x1x2560, .f32⟩
  | .hbm, ⟨71, _⟩ => ⟨S_, .f32⟩
  | .hbm, ⟨72, _⟩ => ⟨S32x1x2560, .f32⟩
  | .hbm, ⟨73, _⟩ => ⟨S32x1x2560, .f32⟩
  | .hbm, ⟨74, _⟩ => ⟨S_, .f32⟩
  | .hbm, ⟨75, _⟩ => ⟨S32x1x2560, .f32⟩
  | .hbm, ⟨76, _⟩ => ⟨S32x1x2560, .f32⟩
  | .hbm, ⟨77, _⟩ => ⟨S32x1x2560, .f32⟩
  | .hbm, ⟨78, _⟩ => ⟨S32x1x2560, .f32⟩
  | .hbm, ⟨79, _⟩ => ⟨S32x1x2560, .bf16⟩
  | .hbm, ⟨80, _⟩ => ⟨S32x2560, .bf16⟩
  | _, _ => ⟨S32x1x17920, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_c_2 : Ref sig .tc := ⟨.hbm, 38, rfl⟩
abbrev main_v29 : Ref sig .tc := ⟨.hbm, 39, rfl⟩
abbrev main_v30 : Ref sig .tc := ⟨.hbm, 40, rfl⟩
abbrev main_c_3 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_4 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_cst_5 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_call0_v0 : Ref sig .tc := ⟨.hbm, 69, rfl⟩
abbrev main_call0_v1 : Ref sig .tc := ⟨.hbm, 70, rfl⟩
abbrev main_call0_cst : Ref sig .tc := ⟨.hbm, 71, rfl⟩
abbrev main_call0_v2 : Ref sig .tc := ⟨.hbm, 72, rfl⟩
abbrev main_call0_v3 : Ref sig .tc := ⟨.hbm, 73, rfl⟩
abbrev main_call0_cst_0 : Ref sig .tc := ⟨.hbm, 74, rfl⟩
abbrev main_call0_v4 : Ref sig .tc := ⟨.hbm, 75, rfl⟩
abbrev main_call0_v5 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩

abbrev nD : Nat := 1
abbrev τ : Topo := Topo.v7x

variable {F : FTy → Type} [FloatOps F]
-- ==== Proof.Pieces.lean ====
/- One grid step's stores into the accumulator, written once for any step: what a group of weights is turned into,
   what a tile of columns adds, and that the twenty stores of the printed body are twenty instances of it. -/
module

public import proofs.«01_k».proof.Proof.Gen.KernelIdeal.Frame

@[expose] public section

noncomputable section

namespace Cert.KernelIdeal.Pieces

open Cert.KernelIdeal Cert.KernelIdeal.Gen Idealize.ShloMosaic Idealize.ShloMosaic.TcCoe Idealize.SL.Sem
open Idealize.ShloMosaic.Tactic

variable {F : FTy → Type} [FloatOps F]

/-! ## The body's operations, one group and one tile at a time -/

/-- The 256 rows of int4 codes a block of 128 packed rows holds: its words xored with `8` in every nibble, each word row
    shifted down by `0, 4, …, 28`, the low four bits kept. -/
def codes (q : IVec S128x256 8) : IVec S256x256 4 :=
  trunci 4 (shapeCast S256x256 (shrui
    (broadcastTo S32x8x256 (shapeCast S32x1x256 (shapeCast S32x1x256
      (xori (bitcast S32x256 32 q bitcasts_S128x256_w8_S32x256_w32) (broadcast S32x256 2290649224#32))
      shapeCasts_S32x256_S32x1x256) shapeCasts_S32x1x256_S32x1x256) broadcasts_S32x1x256_S32x8x256)
    (muli (broadcast S32x8x256 4#32) (iota .tc S32x8x256 32 [1] iota_S32x8x256_d1_w32)))
    shapeCasts_S32x8x256_S256x256) natLt_4_32

/-- One scale row copied down 128 rows. -/
def scaleRows (s : Vec F S1x1x1x256 .bf16) : FVec F S128x256 .bf16 :=
  broadcastTo S128x256 (shapeCast S1x256 (shapeCast S1x256 s shapeCasts_S1x1x1x256_S1x256) shapeCasts_S1x256_S1x256)
    broadcasts_S1x256_S128x256

/-- One group dequantized: the codes times the two scale rows interleaved. -/
def group (q : Vec F S128x256 .i8) (lo hi : Vec F S1x1x1x256 .bf16) : FVec F S256x256 .bf16 :=
  mulf (sitofp .bf16 (codes q))
    (interleaveRows S256x256 (scaleRows lo) (scaleRows hi) bitcasts_S256x256_w16_S128x256_w32)

/-- Ten groups on top of each other: a step's weights in one tile of 256 columns. -/
def tile (g : ℕ → FVec F S256x256 .bf16) : FVec F S2560x256 .bf16 :=
  concatenate S2560x256 0 [⟨S256x256, g 0⟩, ⟨S256x256, g 1⟩, ⟨S256x256, g 2⟩, ⟨S256x256, g 3⟩, ⟨S256x256, g 4⟩,
    ⟨S256x256, g 5⟩, ⟨S256x256, g 6⟩, ⟨S256x256, g 7⟩, ⟨S256x256, g 8⟩, ⟨S256x256, g 9⟩]
    concatenates_S256x256_S256x256_S256x256_S256x256_S256x256_S256x256_S256x256_S256x256_S256x256_S256x256_S2560x256_d0

/-- What a step stores into a tile: what it held, plus the step's activations times the tile's weights. -/
def addTile (x : Vec F S32x2560 .bf16) (w : FVec F S2560x256 .bf16) (old : Vec F S32x256 .f32) : FVec F S32x256 .f32 :=
  shapeCast S32x256 (addf old (matmul dot_S32x2560_S2560x256_S32x256_1_0_0_1_n_n none
    (shapeCast S32x2560 x shapeCasts_S32x2560_S32x2560) w (constant S32x256 .f32 0x00000000#32)))
    shapeCasts_S32x256_S32x256

/-! ## The boxes read and written -/

/-- The packed rows of a group lie within the block. -/
theorem inbW (p n : ℕ) : ∀ a, (![128 * (p % 10), 256 * (n % 10)] : Fin 2 → ℕ) a + S128x256.size a ≤ S1280x2560.size a := by
  intro a; match a with
  | ⟨0, _⟩ => show 128 * (p % 10) + 128 ≤ 1280; omega
  | ⟨1, _⟩ => show 256 * (n % 10) + 256 ≤ 2560; omega

/-- The scale row of a group lies within the block. -/
theorem inbS (h p n : ℕ) : ∀ a, (![h % 2, 0, p % 10, 256 * (n % 10)] : Fin 4 → ℕ) a + S1x1x1x256.size a ≤ S2x1x10x2560.size a := by
  intro a; match a with
  | ⟨0, _⟩ => show h % 2 + 1 ≤ 2; omega
  | ⟨1, _⟩ => show 0 + 1 ≤ 1; omega
  | ⟨2, _⟩ => show p % 10 + 1 ≤ 10; omega
  | ⟨3, _⟩ => show 256 * (n % 10) + 256 ≤ 2560; omega

/-- A tile lies within the accumulator. -/
theorem inbA (k : ℕ) : ∀ a, (![0, 256 * (k % 20)] : Fin 2 → ℕ) a + S32x256.size a ≤ S32x5120.size a := by
  intro a; match a with
  | ⟨0, _⟩ => show 0 + 32 ≤ 32; omega
  | ⟨1, _⟩ => show 256 * (k % 20) + 256 ≤ 5120; omega

/-- The packed rows of group `p` in tile `n`. -/
abbrev boxW (p n : ℕ) : Rect S1280x2560 := Rect.unit ![128 * (p % 10), 256 * (n % 10)] S128x256.size (inbW p n)
/-- The scale row of group `p` in tile `n`, of the codes' half `h`. -/
abbrev boxS (h p n : ℕ) : Rect S2x1x10x2560 := Rect.unit ![h % 2, 0, p % 10, 256 * (n % 10)] S1x1x1x256.size (inbS h p n)
/-- The accumulator's tile `k`: the gate's are 0 to 9, the up projection's 10 to 19. -/
abbrev boxA (k : ℕ) : Rect S32x5120 := Rect.unit ![0, 256 * (k % 20)] S32x256.size (inbA k)

/-- The gate's half of the accumulator. -/
abbrev boxG : Rect S32x5120 := Rect.unit ![0, 0] S32x2560.size inb_S32x5120_S32x2560_0_0
/-- The up projection's half of the accumulator. -/
abbrev boxU : Rect S32x5120 := Rect.unit ![0, 2560] S32x2560.size inb_S32x5120_S32x2560_0_2560

section

variable (x : Vec F S32x2560 .bf16)
  (arg2 : Memref sig .tc .vmem S1280x2560 .i8) (harg2 : arg2.IsWhole) (arg3 : Memref sig .tc .vmem S2x1x10x2560 .bf16) (harg3 : arg3.IsWhole)
  (arg4 : Memref sig .tc .vmem S1280x2560 .i8) (harg4 : arg4.IsWhole) (arg5 : Memref sig .tc .vmem S2x1x10x2560 .bf16) (harg5 : arg5.IsWhole)
  (x1 : Vec F S1280x2560 .i8) (x2 : Vec F S2x1x10x2560 .bf16) (x3 : Vec F S1280x2560 .i8) (x4 : Vec F S2x1x10x2560 .bf16)

/-- Tile `n` of a step's weights, read from its two staged blocks. -/
def wTile (arg2 : Memref sig .tc .vmem S1280x2560 .i8) (harg2 : arg2.IsWhole) (arg3 : Memref sig .tc .vmem S2x1x10x2560 .bf16) (harg3 : arg3.IsWhole)
    (x1 : Vec F S1280x2560 .i8) (x2 : Vec F S2x1x10x2560 .bf16) (n : ℕ) : FVec F S2560x256 .bf16 :=
  tile fun p => group (View.readAt (Elt F) arg2.view (boxW p n).toLoadRect (harg2.unread x1))
    (View.readAt (Elt F) arg3.view (boxS 0 p n).toLoadRect (harg3.unread x2))
    (View.readAt (Elt F) arg3.view (boxS 1 p n).toLoadRect (harg3.unread x2))

/-- The accumulator's tile `k` of a step's weights. -/
def wTileOf (k : ℕ) : FVec F S2560x256 .bf16 :=
  if k < 10 then wTile arg2 harg2 arg3 harg3 x1 x2 k else wTile arg4 harg4 arg5 harg5 x3 x4 k

/-- The accumulator's first `k` stores of a step that takes it up as the step before left it, last first. -/
def stores (arg7 : Memref sig .tc .vmem S32x5120 .f32) (harg7 : arg7.IsWhole) (xs : Vec F S32x5120 .f32) :
    ℕ → List (View.Piece (Elt F) S32x5120 .f32)
  | 0 => []
  | k + 1 => ⟨boxA k, addTile x (wTileOf arg2 harg2 arg3 harg3 arg4 harg4 arg5 harg5 x1 x2 x3 x4 k)
      (View.readAt (Elt F) arg7.view (boxA k).toLoadRect (harg7.unread xs))⟩ :: stores arg7 harg7 xs k

/-- The accumulator's first `k` stores of the first step, after it has been cleared, last first. -/
def stores0 (arg7 : Memref sig .tc .vmem S32x5120 .f32) : ℕ → List (View.Piece (Elt F) S32x5120 .f32)
  | 0 => [⟨Rect.unit ![0, 0] S32x5120.size inb_S32x5120_S32x5120_0_0, k0_pay3⟩]
  | k + 1 => ⟨boxA k, addTile x (wTileOf arg2 harg2 arg3 harg3 arg4 harg4 arg5 harg5 x1 x2 x3 x4 k)
      (arg7.view.readCov (stores0 arg7 k) (boxA k).toLoadRect)⟩ :: stores0 arg7 k

end

/-- The first step clears the accumulator, then stores those. -/
theorem run_A (c : Dev nD) (i : grid0.Coords) (arg1 : Memref sig .tc .vmem S32x2560 .bf16) (harg1 : arg1.IsWhole) (arg2 : Memref sig .tc .vmem S1280x2560 .i8) (harg2 : arg2.IsWhole) (arg3 : Memref sig .tc .vmem S2x1x10x2560 .bf16) (harg3 : arg3.IsWhole) (arg4 : Memref sig .tc .vmem S1280x2560 .i8) (harg4 : arg4.IsWhole) (arg5 : Memref sig .tc .vmem S2x1x10x2560 .bf16) (harg5 : arg5.IsWhole) (arg6 : Memref sig .tc .vmem S32x2560 .bf16) (harg6 : arg6.IsWhole) (arg7 : Memref sig .tc .vmem S32x5120 .f32) (harg7 : arg7.IsWhole) (hc0 : cond0_0 i) (hc1 : ¬cond0_1 i)
    (x0 : Vec F S32x2560 .bf16) (x1 : Vec F S1280x2560 .i8) (x2 : Vec F S2x1x10x2560 .bf16) (x3 : Vec F S1280x2560 .i8) (x4 : Vec F S2x1x10x2560 .bf16) :
    (kernelRun0_A c i arg1 harg1 arg2 harg2 arg3 harg3 arg4 harg4 arg5 harg5 arg6 harg6 arg7 harg7 hc0 hc1 x0 x1 x2 x3 x4).2.1
      = stores0 (View.readAt (Elt F) arg1.view (Rect.unit ![0, 0] S32x2560.size inb_S32x2560_S32x2560_0_0).toLoadRect (harg1.unread x0))
          arg2 harg2 arg3 harg3 arg4 harg4 arg5 harg5 x1 x2 x3 x4 arg7 20 := by
  sl_kernel_rfl

/-- A middle step's stores are those. -/
theorem run_B (c : Dev nD) (i : grid0.Coords) (arg1 : Memref sig .tc .vmem S32x2560 .bf16) (harg1 : arg1.IsWhole) (arg2 : Memref sig .tc .vmem S1280x2560 .i8) (harg2 : arg2.IsWhole) (arg3 : Memref sig .tc .vmem S2x1x10x2560 .bf16) (harg3 : arg3.IsWhole) (arg4 : Memref sig .tc .vmem S1280x2560 .i8) (harg4 : arg4.IsWhole) (arg5 : Memref sig .tc .vmem S2x1x10x2560 .bf16) (harg5 : arg5.IsWhole) (arg6 : Memref sig .tc .vmem S32x2560 .bf16) (harg6 : arg6.IsWhole) (arg7 : Memref sig .tc .vmem S32x5120 .f32) (harg7 : arg7.IsWhole) (hc0 : ¬cond0_0 i) (hc1 : ¬cond0_1 i)
    (x0 : Vec F S32x2560 .bf16) (x1 : Vec F S1280x2560 .i8) (x2 : Vec F S2x1x10x2560 .bf16) (x3 : Vec F S1280x2560 .i8) (x4 : Vec F S2x1x10x2560 .bf16) (xs0 : Vec F S32x5120 .f32) :
    (kernelRun0_B c i arg1 harg1 arg2 harg2 arg3 harg3 arg4 harg4 arg5 harg5 arg6 harg6 arg7 harg7 hc0 hc1 x0 x1 x2 x3 x4 xs0).2.1
      = stores (View.readAt (Elt F) arg1.view (Rect.unit ![0, 0] S32x2560.size inb_S32x2560_S32x2560_0_0).toLoadRect (harg1.unread x0))
          arg2 harg2 arg3 harg3 arg4 harg4 arg5 harg5 x1 x2 x3 x4 arg7 harg7 xs0 20 := by
  sl_kernel_rfl

/-- So are the last step's stores into the accumulator. -/
theorem run_C (c : Dev nD) (i : grid0.Coords) (arg1 : Memref sig .tc .vmem S32x2560 .bf16) (harg1 : arg1.IsWhole) (arg2 : Memref sig .tc .vmem S1280x2560 .i8) (harg2 : arg2.IsWhole) (arg3 : Memref sig .tc .vmem S2x1x10x2560 .bf16) (harg3 : arg3.IsWhole) (arg4 : Memref sig .tc .vmem S1280x2560 .i8) (harg4 : arg4.IsWhole) (arg5 : Memref sig .tc .vmem S2x1x10x2560 .bf16) (harg5 : arg5.IsWhole) (arg6 : Memref sig .tc .vmem S32x2560 .bf16) (harg6 : arg6.IsWhole) (arg7 : Memref sig .tc .vmem S32x5120 .f32) (harg7 : arg7.IsWhole) (hc0 : ¬cond0_0 i) (hc1 : cond0_1 i)
    (x0 : Vec F S32x2560 .bf16) (x1 : Vec F S1280x2560 .i8) (x2 : Vec F S2x1x10x2560 .bf16) (x3 : Vec F S1280x2560 .i8) (x4 : Vec F S2x1x10x2560 .bf16) (xs0 : Vec F S32x5120 .f32) :
    (kernelRun0_C c i arg1 harg1 arg2 harg2 arg3 harg3 arg4 harg4 arg5 harg5 arg6 harg6 arg7 harg7 hc0 hc1 x0 x1 x2 x3 x4 xs0).2.1
      = stores (View.readAt (Elt F) arg1.view (Rect.unit ![0, 0] S32x2560.size inb_S32x2560_S32x2560_0_0).toLoadRect (harg1.unread x0))
          arg2 harg2 arg3 harg3 arg4 harg4 arg5 harg5 x1 x2 x3 x4 arg7 harg7 xs0 20 := by
  sl_kernel_rfl

/-- The last step stores its result whole, from the two halves of the accumulator after its own stores. -/
theorem run_C_out (c : Dev nD) (i : grid0.Coords) (arg1 : Memref sig .tc .vmem S32x2560 .bf16) (harg1 : arg1.IsWhole) (arg2 : Memref sig .tc .vmem S1280x2560 .i8) (harg2 : arg2.IsWhole) (arg3 : Memref sig .tc .vmem S2x1x10x2560 .bf16) (harg3 : arg3.IsWhole) (arg4 : Memref sig .tc .vmem S1280x2560 .i8) (harg4 : arg4.IsWhole) (arg5 : Memref sig .tc .vmem S2x1x10x2560 .bf16) (harg5 : arg5.IsWhole) (arg6 : Memref sig .tc .vmem S32x2560 .bf16) (harg6 : arg6.IsWhole) (arg7 : Memref sig .tc .vmem S32x5120 .f32) (harg7 : arg7.IsWhole) (hc0 : ¬cond0_0 i) (hc1 : cond0_1 i)
    (x0 : Vec F S32x2560 .bf16) (x1 : Vec F S1280x2560 .i8) (x2 : Vec F S2x1x10x2560 .bf16) (x3 : Vec F S1280x2560 .i8) (x4 : Vec F S2x1x10x2560 .bf16) (xs0 : Vec F S32x5120 .f32) :
    (kernelRun0_C c i arg1 harg1 arg2 harg2 arg3 harg3 arg4 harg4 arg5 harg5 arg6 harg6 arg7 harg7 hc0 hc1 x0 x1 x2 x3 x4 xs0).1
      = [⟨Rect.unit ![0, 0] S32x2560.size inb_S32x2560_S32x2560_0_0, k0_pay2
          (arg7.view.readCov (stores (View.readAt (Elt F) arg1.view (Rect.unit ![0, 0] S32x2560.size inb_S32x2560_S32x2560_0_0).toLoadRect (harg1.unread x0))
          arg2 harg2 arg3 harg3 arg4 harg4 arg5 harg5 x1 x2 x3 x4 arg7 harg7 xs0 20) boxG.toLoadRect)
          (arg7.view.readCov (stores (View.readAt (Elt F) arg1.view (Rect.unit ![0, 0] S32x2560.size inb_S32x2560_S32x2560_0_0).toLoadRect (harg1.unread x0))
          arg2 harg2 arg3 harg3 arg4 harg4 arg5 harg5 x1 x2 x3 x4 arg7 harg7 xs0 20) boxU.toLoadRect)⟩] := by
  sl_kernel_rfl

end Cert.KernelIdeal.Pieces

end
end
-- ==== Proof.Tile.lean ====
/- A step's weights and the product it adds, read at an index over the extended reals. -/
module

public import proofs.«01_k».proof.Proof.Pieces
public import Idealize.ShloMosaic.PureOps.Ideal
public import Idealize.ShloMosaic.Lib.Pointwise
public import Idealize.ShloMosaic.Lib.BitcastFour

@[expose] public section

noncomputable section

namespace Cert.KernelIdeal.Pieces

open Cert.KernelIdeal Cert.KernelIdeal.Gen Idealize.ShloMosaic Idealize.ShloMosaic.TcCoe Idealize.SL.Sem
open Idealize.ShloMosaic.Tactic

/-- The signed code in nibble `h` of a packed byte: the nibble with its top bit flipped, that is, less eight. -/
def code (b : BitVec 8) (h : ℕ) : BitVec 4 := (b >>> (4 * h)).setWidth 4 ^^^ 8#4

/-- Nibble `m` of a word xored with eight in every nibble, as the code of the byte that holds it. -/
theorem nibble_eq (W : BitVec 32) (b : BitVec 8) (m : ℕ) (h8 : m < 8)
    (hb : ∀ i < 4, W.getLsbD (4 * m + i) = b.getLsbD (4 * (m % 2) + i)) :
    BitVec.setWidth 4 (IntOp.shrui ArithUnit.vector (IntOp.xori W 2290649224#32) (IntOp.muli (4#32) (BitVec.ofNat 32 m)))
      = code b (m % 2) := by
  unfold code
  apply BitVec.eq_of_getLsbD_eq
  intro i hi
  have hm : ∀ m < 8, IntOp.muli (4#32) (BitVec.ofNat 32 m) = BitVec.ofNat 32 (4 * m) := by decide
  have hx : ∀ m < 8, ∀ i < 4, (2290649224#32 : BitVec 32).getLsbD (4 * m + i) = (8#4 : BitVec 4).getLsbD i := by decide
  have hs : (BitVec.ofNat 32 (4 * m)).toNat = 4 * m := by
    rw [BitVec.toNat_ofNat]; omega
  have h32 : 4 * m < 32 := by omega
  rw [hm m h8]
  simp only [IntOp.shrui, IntOp.xori, hs, BitVec.getLsbD_setWidth, BitVec.getLsbD_xor, BitVec.getLsbD_ushiftRight,
    BitVec.ushiftRight_eq', hb i hi, hx m h8 i hi, hi, h32, if_true, decide_true, Bool.true_and]

/-- Row `r` of the unpacked codes is nibble `r % 2` of the packed row `r / 2`. -/
theorem codes_apply (q : IVec S128x256 8) (r f : Fin 256) :
    codes q (ix2 r f) = code (q (ix2 ⟨r.val / 2, by omega⟩ f)) (r.val % 2) := by
  unfold codes
  pointwise
  have h2 : r.val % 2 = (r.val % 8) % 2 := by omega
  rw [h2]
  refine nibble_eq _ _ _ (by omega) fun i hi => ?_
  refine (bitcast_8_32_getLsbD_ix2 q _ ⟨r.val / 8, by omega⟩ f (4 * (r.val % 8) + i) (by omega) ⟨r.val / 2, by omega⟩
    (by show r.val / 2 = 4 * (r.val / 8) + (4 * (r.val % 8) + i) / 8; omega)).trans ?_
  rw [show (4 * (r.val % 8) + i) % 8 = 4 * (r.val % 8 % 2) + i by omega]
  rfl

/-- A group at an index: the code of the packed row times its half's scale. -/
theorem group_apply (q : Vec Ideal S128x256 .i8) (lo hi : Vec Ideal S1x1x1x256 .bf16) (r f : Fin 256) :
    group q lo hi (ix2 r f) = FloatOps.sitofp (F := Ideal) .bf16 (code (q (ix2 ⟨r.val / 2, by omega⟩ f)) (r.val % 2))
      * (if r.val % 2 = 0 then lo (ix4 0 0 0 f) else hi (ix4 0 0 0 f)) := by
  unfold group scaleRows
  pointwise [codes_apply]

/-- Both branches of a choice being `c`, the choice is. -/
theorem dite_eq_of {α : Type} {P : Prop} [Decidable P] {a : P → α} {b : ¬P → α} {c : α} (h1 : ∀ h, a h = c)
    (h2 : ∀ h, b h = c) : dite P a b = c := by
  by_cases h : P
  · rw [dif_pos h, h1]
  · rw [dif_neg h, h2]

/-- A tile at an index: the row of the group it lies in. -/
theorem tile_apply (g : ℕ → FVec Ideal S256x256 .bf16) (r : Fin 2560) (f : Fin 256) :
    tile g (ix2 r f) = g (r.val / 256) (ix2 ⟨r.val % 256, by omega⟩ f) := by
  have key : ∀ (n : ℕ) (v : ℕ) (h : v < 256), r.val = 256 * n + v →
      g n (ix2 ⟨v, h⟩ f) = g (r.val / 256) (ix2 ⟨r.val % 256, by omega⟩ f) := by
    intro n v h e
    have e1 : n = r.val / 256 := by omega
    have e2 : v = r.val % 256 := by omega
    subst e1 e2; rfl
  unfold tile
  pointwise
  have hr := r.isLt
  iterate 9 refine dite_eq_of (fun h => key _ _ _ (by omega)) fun h => ?_
  exact key _ _ _ (by omega)

/-- What a step adds to a tile at an index. -/
theorem addTile_apply (x : Vec Ideal S32x2560 .bf16) (w : FVec Ideal S2560x256 .bf16) (old : Vec Ideal S32x256 .f32)
    (b : Fin 32) (f : Fin 256) :
    addTile x w old (ix2 b f) = old (ix2 b f) + ∑ k : Fin 2560, x (ix2 b k) * w (ix2 k f) := by
  unfold addTile
  pointwise

end Cert.KernelIdeal.Pieces
-- ==== Proof.Step.lean ====
/- What one grid step leaves in the accumulator: everywhere what it held plus the step's product. -/
module

public import proofs.«01_k».proof.Proof.Tile

@[expose] public section

noncomputable section

namespace Cert.KernelIdeal.Pieces

open Cert.KernelIdeal Cert.KernelIdeal.Gen Idealize.ShloMosaic Idealize.ShloMosaic.TcCoe Idealize.SL.Sem
open Idealize.ShloMosaic.Tactic

/-- Row `k`, column `f` of the weights that a step's packed block `q` and scale block `s` stand for. -/
def weight (q : Vec Ideal S1280x2560 .i8) (s : Vec Ideal S2x1x10x2560 .bf16) (k f : Fin 2560) : EReal :=
  FloatOps.sitofp (F := Ideal) .bf16 (code (q (ix2 ⟨k.val / 2, by omega⟩ f)) (k.val % 2))
    * s (ix4 ⟨k.val % 2, by omega⟩ 0 ⟨k.val / 256, by omega⟩ f)

/-- What a step adds to one projection at row `b`, column `f`. -/
def gainAt (x : Vec Ideal S32x2560 .bf16) (q : Vec Ideal S1280x2560 .i8) (s : Vec Ideal S2x1x10x2560 .bf16)
    (b : Fin 32) (f : Fin 2560) : EReal :=
  ∑ k : Fin 2560, x (ix2 b k) * weight q s k f

/-- What a step adds to the accumulator at row `b`, column `c`: the gate's columns are the first 2560. -/
def gain (x : Vec Ideal S32x2560 .bf16) (x1 : Vec Ideal S1280x2560 .i8) (x2 : Vec Ideal S2x1x10x2560 .bf16)
    (x3 : Vec Ideal S1280x2560 .i8) (x4 : Vec Ideal S2x1x10x2560 .bf16) (b : Fin 32) (c : Fin 5120) : EReal :=
  if h : c.val < 2560 then gainAt x x1 x2 b ⟨c.val, h⟩ else gainAt x x3 x4 b ⟨c.val - 2560, by omega⟩

/-- A tile of a step's weights at an index. -/
theorem wTile_apply (arg2 : Memref sig .tc .vmem S1280x2560 .i8) (harg2 : arg2.IsWhole)
    (arg3 : Memref sig .tc .vmem S2x1x10x2560 .bf16) (harg3 : arg3.IsWhole)
    (q : Vec Ideal S1280x2560 .i8) (s : Vec Ideal S2x1x10x2560 .bf16) (n : ℕ) (k : Fin 2560) (f : Fin 256) :
    wTile arg2 harg2 arg3 harg3 q s n (ix2 k f) = weight q s k ⟨256 * (n % 10) + f.val, by omega⟩ := by
  unfold wTile
  rw [tile_apply, group_apply]
  simp only [View.readAt_eq_ld, harg2.read_unread, harg3.read_unread]
  pointwise
  unfold weight
  have hk := k.isLt
  have e1 : k.val / 256 % 10 = k.val / 256 := by omega
  have e2 : k.val % 256 % 2 = k.val % 2 := by omega
  have e3 : 128 * (k.val / 256) + k.val % 256 / 2 = k.val / 2 := by omega
  simp only [e1, e2, e3]
  congr 1
  rcases Nat.mod_two_eq_zero_or_one k.val with h | h
  · rw [if_pos h]; congr 1; congr 1; exact Fin.ext h.symm
  · rw [if_neg (by omega)]; congr 1; congr 1; exact Fin.ext h.symm

section

variable (x : Vec Ideal S32x2560 .bf16)
  (arg2 : Memref sig .tc .vmem S1280x2560 .i8) (harg2 : arg2.IsWhole) (arg3 : Memref sig .tc .vmem S2x1x10x2560 .bf16) (harg3 : arg3.IsWhole)
  (arg4 : Memref sig .tc .vmem S1280x2560 .i8) (harg4 : arg4.IsWhole) (arg5 : Memref sig .tc .vmem S2x1x10x2560 .bf16) (harg5 : arg5.IsWhole)
  (x1 : Vec Ideal S1280x2560 .i8) (x2 : Vec Ideal S2x1x10x2560 .bf16) (x3 : Vec Ideal S1280x2560 .i8) (x4 : Vec Ideal S2x1x10x2560 .bf16)
  (arg7 : Memref sig .tc .vmem S32x5120 .f32) (harg7 : arg7.IsWhole)

/-- The store into tile `k`, at an index of the accumulator that lies in it. -/
theorem addTile_wTileOf (old : Vec Ideal S32x256 .f32) (k : ℕ) (b : Fin 32) (f : Fin 256) (c : Fin 5120)
    (hc : c.val = 256 * k + f.val) :
    addTile x (wTileOf arg2 harg2 arg3 harg3 arg4 harg4 arg5 harg5 x1 x2 x3 x4 k) old (ix2 b f)
      = old (ix2 b f) + gain x x1 x2 x3 x4 b c := by
  have hc' := c.isLt
  rw [addTile_apply]
  congr 1
  unfold gain gainAt wTileOf
  by_cases h : k < 10
  · rw [if_pos h, dif_pos (by omega)]
    refine Finset.sum_congr rfl fun j _ => ?_
    rw [wTile_apply]
    have e : 256 * (k % 10) + f.val = c.val := by omega
    simp only [e]
  · rw [if_neg h, dif_neg (by omega)]
    refine Finset.sum_congr rfl fun j _ => ?_
    rw [wTile_apply]
    have e : 256 * (k % 10) + f.val = c.val - 2560 := by omega
    simp only [e]

/-- The index of tile `k`'s own place `f` in the accumulator. -/
theorem boxA_idx (k : ℕ) (hk : k < 20) (b : Fin 32) (f : Fin 256) (c : Fin 5120) (hc : c.val = 256 * k + f.val) :
    (boxA k).emb (ix2 b f) = ix2 b c := by
  show (boxA k).toLoadRect.idx (ix2 b f) = ix2 b c
  rw [LoadRect.idx_eq_norm]
  pointwise
  congr 1; exact Fin.ext (by show 256 * (k % 20) + f.val = c.val; omega)

/-- A column before tile `k` is not in it. -/
theorem not_mem_boxA (k : ℕ) (hk : k < 20) (b : Fin 32) (c : Fin 5120) (hc : c.val < 256 * k) : ix2 b c ∉ (boxA k).set := by
  rw [Rect.mem_set_unit]
  intro h
  have h1 := (h ⟨1, Nat.one_lt_two⟩).1
  have h2 : 256 * (k % 20) ≤ c.val := h1
  omega

/-- A column from tile `k`'s first to its last is tile `k`'s own place `f`. -/
theorem exists_tile_col (k c : ℕ) (h : 256 * k ≤ c) (h' : c < 256 * (k + 1)) : ∃ f : Fin 256, c = 256 * k + f.val :=
  ⟨⟨c - 256 * k, by omega⟩, (Nat.add_sub_cancel' h).symm⟩

/-- After `k` stores of a later step the first `k` tiles have gained the step's product. -/
theorem canon_stores (xs : Vec Ideal S32x5120 .f32) : ∀ k ≤ 20, ∀ (b : Fin 32) (c : Fin 5120), c.val < 256 * k →
    View.canon (stores x arg2 harg2 arg3 harg3 arg4 harg4 arg5 harg5 x1 x2 x3 x4 arg7 harg7 xs k) (ix2 b c)
      = xs (ix2 b c) + gain x x1 x2 x3 x4 b c := by
  intro k
  induction k with
  | zero => intro _ b c hc; omega
  | succ k ih =>
    intro hk b c hc
    rw [stores]
    by_cases h : c.val < 256 * k
    · rw [View.canon_cons_of_not_mem]
      · exact ih (by omega) b c h
      · exact not_mem_boxA k (by omega) b c h
    · obtain ⟨f, hf⟩ := exists_tile_col k c.val (by omega) hc
      rw [← boxA_idx k (by omega) b f c hf,
        View.canon_cons_emb, addTile_wTileOf _ _ _ _ _ _ _ _ _ _ _ _ _ _ k b _ c hf]
      congr 1
      rw [View.readAt_eq_ld, harg7.read_unread]
      rfl

/-- After `k` stores of the first step the first `k` tiles hold the step's product, the rest zero. -/
theorem canon_stores0 : ∀ k ≤ 20, ∀ (b : Fin 32) (c : Fin 5120),
    View.canon (stores0 x arg2 harg2 arg3 harg3 arg4 harg4 arg5 harg5 x1 x2 x3 x4 arg7 k) (ix2 b c)
      = if c.val < 256 * k then 0 + gain x x1 x2 x3 x4 b c else (0 : EReal) := by
  intro k
  induction k with
  | zero =>
    intro _ b c
    rw [stores0, View.canon_unit_zero (by funext a; match a with | ⟨0, _⟩ => rfl | ⟨1, _⟩ => rfl), if_neg (by omega)]
    pointwise [k0_pay3]
  | succ k ih =>
    intro hk b c
    rw [stores0]
    by_cases h : c.val < 256 * k
    · rw [View.canon_cons_of_not_mem, if_pos (by omega), ih (by omega) b c, if_pos h]
      exact not_mem_boxA k (by omega) b c h
    · by_cases h' : c.val < 256 * (k + 1)
      · rw [if_pos h']
        obtain ⟨f, hf⟩ := exists_tile_col k c.val (by omega) h'
        have hidx := boxA_idx k (by omega) b f c hf
        rw [← hidx, View.canon_cons_emb, addTile_wTileOf _ _ _ _ _ _ _ _ _ _ _ _ _ _ k b _ c hf]
        congr 1
        rw [View.readCov_eq_canon']
        refine (congrArg _ hidx).trans ?_
        rw [ih (by omega) b c, if_neg h]
      · rw [if_neg h', View.canon_cons_of_not_mem, ih (by omega) b c, if_neg h]
        rw [Rect.mem_set_unit]
        intro hm
        have h2 : c.val < 256 * (k % 20) + 256 := (hm ⟨1, Nat.one_lt_two⟩).2
        omega

end

end Cert.KernelIdeal.Pieces
-- ==== Proof.Fold.lean ====
/- The accumulator after each grid point, and the result the last point stores. -/
module

public import proofs.«01_k».proof.Proof.Step
public import proofs.«01_k».proof.Proof.Gen.KernelIdeal.Value

@[expose] public section

noncomputable section

namespace Cert.KernelIdeal.Pieces

open Cert.KernelIdeal Cert.KernelIdeal.Gen Cert.KernelIdeal.Value Idealize.ShloMosaic Idealize.ShloMosaic.TcCoe Idealize.SL.Sem
open Idealize.ShloMosaic.Tactic

/-- The gate passed through the logistic function, times the up projection. -/
def swiglu (g u : EReal) : EReal := g * Ideal.logistic g * u

section

variable (c : Dev nD) (i : grid0.Coords) (arg1 : Memref sig .tc .vmem S32x2560 .bf16) (harg1 : arg1.IsWhole) (arg2 : Memref sig .tc .vmem S1280x2560 .i8) (harg2 : arg2.IsWhole) (arg3 : Memref sig .tc .vmem S2x1x10x2560 .bf16) (harg3 : arg3.IsWhole) (arg4 : Memref sig .tc .vmem S1280x2560 .i8) (harg4 : arg4.IsWhole) (arg5 : Memref sig .tc .vmem S2x1x10x2560 .bf16) (harg5 : arg5.IsWhole) (arg6 : Memref sig .tc .vmem S32x2560 .bf16) (harg6 : arg6.IsWhole) (arg7 : Memref sig .tc .vmem S32x5120 .f32) (harg7 : arg7.IsWhole)
  (x0 : Vec Ideal S32x2560 .bf16) (x1 : Vec Ideal S1280x2560 .i8) (x2 : Vec Ideal S2x1x10x2560 .bf16) (x3 : Vec Ideal S1280x2560 .i8) (x4 : Vec Ideal S2x1x10x2560 .bf16)

/-- A load of the whole block of activations reads the block. -/
theorem load_x (arg1 : Memref sig .tc .vmem S32x2560 .bf16) (harg1 : arg1.IsWhole) (x0 : Vec Ideal S32x2560 .bf16) :
    View.readAt (Elt Ideal) arg1.view (Rect.unit ![0, 0] S32x2560.size inb_S32x2560_S32x2560_0_0).toLoadRect (harg1.unread x0) = x0 := by
  rw [View.readAt_eq_ld, harg1.read_unread]
  exact View.ld_unit_zero (by funext a; match a with | ⟨0, _⟩ => rfl | ⟨1, _⟩ => rfl) _ _

/-- What the first point leaves in the accumulator. -/
theorem sout_A (hc0 : cond0_0 i) (hc1 : ¬cond0_1 i) (b : Fin 32) (col : Fin 5120) :
    sout0_A_0 c i arg1 harg1 arg2 harg2 arg3 harg3 arg4 harg4 arg5 harg5 arg6 harg6 arg7 harg7 hc0 hc1 x0 x1 x2 x3 x4 (ix2 b col) = 0 + gain x0 x1 x2 x3 x4 b col := by
  unfold sout0_A_0
  rw [View.read_writes_junk_eq_canon, run_A, load_x]
  refine (canon_stores0 _ _ _ _ _ _ _ _ _ _ _ _ _ _ 20 le_rfl b col).trans ?_
  rw [if_pos col.isLt]

/-- What a middle point leaves in it. -/
theorem sout_B (hc0 : ¬cond0_0 i) (hc1 : ¬cond0_1 i) (xs : Vec Ideal S32x5120 .f32) (b : Fin 32) (col : Fin 5120) :
    sout0_B_0 c i arg1 harg1 arg2 harg2 arg3 harg3 arg4 harg4 arg5 harg5 arg6 harg6 arg7 harg7 hc0 hc1 x0 x1 x2 x3 x4 xs (ix2 b col) = xs (ix2 b col) + gain x0 x1 x2 x3 x4 b col := by
  unfold sout0_B_0
  rw [View.read_writes_junk_eq_canon, run_B, load_x]
  exact canon_stores _ _ _ _ _ _ _ _ _ _ _ _ _ _ _ xs 20 le_rfl b col col.isLt

/-- What the last point stores as the result. -/
theorem out_C (hc0 : ¬cond0_0 i) (hc1 : cond0_1 i) (xs : Vec Ideal S32x5120 .f32) (b : Fin 32) (f : Fin 2560) :
    out0_C_5 c i arg1 harg1 arg2 harg2 arg3 harg3 arg4 harg4 arg5 harg5 arg6 harg6 arg7 harg7 hc0 hc1 x0 x1 x2 x3 x4 xs (ix2 b f)
      = swiglu (xs (ix2 b ⟨f.val, by omega⟩) + gainAt x0 x1 x2 b f) (xs (ix2 b ⟨2560 + f.val, by omega⟩) + gainAt x0 x3 x4 b f) := by
  have hg := canon_stores x0 arg2 harg2 arg3 harg3 arg4 harg4 arg5 harg5 x1 x2 x3 x4 arg7 harg7 xs 20 le_rfl b ⟨f.val, by omega⟩
    (by show f.val < 5120; omega)
  have hu := canon_stores x0 arg2 harg2 arg3 harg3 arg4 harg4 arg5 harg5 x1 x2 x3 x4 arg7 harg7 xs 20 le_rfl b ⟨2560 + f.val, by omega⟩
    (by show 2560 + f.val < 5120; omega)
  have eg : gain x0 x1 x2 x3 x4 b ⟨f.val, by omega⟩ = gainAt x0 x1 x2 b f := by
    unfold gain; rw [dif_pos f.isLt]
  have eu : gain x0 x1 x2 x3 x4 b ⟨2560 + f.val, by omega⟩ = gainAt x0 x3 x4 b f := by
    unfold gain
    rw [dif_neg (by show ¬ 2560 + f.val < 2560; omega)]
    have e : 2560 + f.val - 2560 = f.val := by omega
    simp only [e]
  rw [eg] at hg
  rw [eu] at hu
  rw [← hg, ← hu]
  unfold out0_C_5
  rw [View.read_writes_junk_eq_canon, run_C_out, load_x]
  rw [View.canon_unit_zero (by funext a; match a with | ⟨0, _⟩ => rfl | ⟨1, _⟩ => rfl)]
  simp only [View.readCov_eq_canon']
  generalize View.canon (stores x0 arg2 harg2 arg3 harg3 arg4 harg4 arg5 harg5 x1 x2 x3 x4 arg7 harg7 xs 20) = A
  unfold swiglu k0_pay2
  pointwise

end

section

variable (m : (p : Loc nD τ sig) → Buf (Elt Ideal) p) (c : Dev nD)

/-- What point `t` adds to the gate's accumulator. -/
def gateGain (t : Fin cfg0.N) (b : Fin 32) (f : Fin 2560) : EReal :=
  gainAt (iblk m c 0 t) (iblk m c 1 t) (iblk m c 2 t) b f

/-- What point `t` adds to the up projection's accumulator. -/
def upGain (t : Fin cfg0.N) (b : Fin 32) (f : Fin 2560) : EReal :=
  gainAt (iblk m c 0 t) (iblk m c 3 t) (iblk m c 4 t) b f

/-- What point `n` adds to the accumulator. -/
def stepGain (n : ℕ) (b : Fin 32) (col : Fin 5120) : EReal :=
  if h : n < cfg0.N then gain (iblk m c 0 ⟨n, h⟩) (iblk m c 1 ⟨n, h⟩) (iblk m c 2 ⟨n, h⟩) (iblk m c 3 ⟨n, h⟩) (iblk m c 4 ⟨n, h⟩) b col
  else 0

/-- The first point leaves its product in the accumulator. -/
theorem step_A (n : ℕ) (h : n < cfg0.N) (acc : Vec Ideal S32x2560 .bf16 × Vec Ideal S32x5120 .f32)
    (h0 : n % 7 = 0) (h1 : ¬n % 7 = 6) (b : Fin 32) (col : Fin 5120) :
    (stAt0 m c n h acc).2 (ix2 b col) = stepGain m c n b col := by
  have e := stAt0_A m c ⟨n, h⟩ acc h0 h1
  dsimp only at e
  rw [e, stepGain, dif_pos h]
  dsimp only
  rw [sout_A, zero_add]

/-- A middle point adds its product to it. -/
theorem step_B (n : ℕ) (h : n < cfg0.N) (acc : Vec Ideal S32x2560 .bf16 × Vec Ideal S32x5120 .f32)
    (h0 : ¬n % 7 = 0) (h1 : ¬n % 7 = 6) (b : Fin 32) (col : Fin 5120) :
    (stAt0 m c n h acc).2 (ix2 b col) = acc.2 (ix2 b col) + stepGain m c n b col := by
  have e := stAt0_B m c ⟨n, h⟩ acc h0 h1
  dsimp only at e
  rw [e, stepGain, dif_pos h]
  dsimp only
  rw [sout_B]

/-- The last point stores the result from the sums completed by its own products. -/
theorem step_C (n : ℕ) (h : n < cfg0.N) (acc : Vec Ideal S32x2560 .bf16 × Vec Ideal S32x5120 .f32)
    (h0 : ¬n % 7 = 0) (h1 : n % 7 = 6) (b : Fin 32) (f : Fin 2560) :
    (stAt0 m c n h acc).1 (ix2 b f)
      = swiglu (acc.2 (ix2 b ⟨f.val, by omega⟩) + gateGain m c ⟨n, h⟩ b f)
          (acc.2 (ix2 b ⟨2560 + f.val, by omega⟩) + upGain m c ⟨n, h⟩ b f) := by
  have e := stAt0_C m c ⟨n, h⟩ acc h0 h1
  dsimp only at e
  rw [e]
  dsimp only
  rw [out_C, gateGain, upGain]

/-- The accumulator after point `n`, for the points before the last: the products of the points so far. -/
theorem acc_sum : ∀ (n : ℕ) (_ : n < 6) (h : 0 + n < cfg0.N) (b : Fin 32) (col : Fin 5120),
    (Pipeline.accAt (fun n h => stAt0 m c n h junk0) (stAt0 m c) 0 n h).2 (ix2 b col)
      = ∑ t ∈ Finset.range (n + 1), stepGain m c t b col := by
  intro n
  induction n with
  | zero =>
    intro _ h b col
    rw [Pipeline.accAt_zero, step_A m c 0 h _ (Nat.zero_mod 7) (by decide), Finset.sum_range_one]
  | succ n ih =>
    intro hn h b col
    rw [Pipeline.accAt_succ, step_B m c _ h _ (by omega) (by omega), Finset.sum_range_succ, ih (by omega) _ b col, Nat.zero_add]

/-- The gate's columns of what a point adds. -/
theorem stepGain_gate (n : ℕ) (h : n < cfg0.N) (b : Fin 32) (f : Fin 2560) :
    stepGain m c n b ⟨f.val, by omega⟩ = gateGain m c ⟨n, h⟩ b f := by
  rw [stepGain, dif_pos h, gain, dif_pos f.isLt, gateGain]

/-- The up projection's columns of it. -/
theorem stepGain_up (n : ℕ) (h : n < cfg0.N) (b : Fin 32) (f : Fin 2560) :
    stepGain m c n b ⟨2560 + f.val, by omega⟩ = upGain m c ⟨n, h⟩ b f := by
  rw [stepGain, dif_pos h, gain, dif_neg (by show ¬ 2560 + f.val < 2560; omega), upGain]
  have e : 2560 + f.val - 2560 = f.val := by omega
  simp only [e]

/-- The sum over the points, its last term apart. -/
theorem sum_points (g : ℕ → EReal) (G : Fin cfg0.N → EReal) (h : ∀ n (h : n < cfg0.N), g n = G ⟨n, h⟩) (h6 : 6 < cfg0.N) :
    ∑ t ∈ Finset.range 6, g t + G ⟨6, h6⟩ = ∑ t : Fin cfg0.N, G t := by
  have hN : 7 = cfg0.N := N_0.symm
  have e : ∑ t : Fin cfg0.N, G t = ∑ t : Fin cfg0.N, g t.val := Finset.sum_congr rfl fun t _ => (h t.val t.isLt).symm
  rw [← h 6 h6, ← Finset.sum_range_succ, e, Fin.sum_univ_eq_sum_range g, ← hN]

/-- The kernel's result at an index: the products of the seven points, put through the gate. -/
theorem G5_apply (b : Fin 32) (f : Fin 2560) :
    G5 m c (ix2 b f) = swiglu (∑ t : Fin cfg0.N, gateGain m c t b f) (∑ t : Fin cfg0.N, upGain m c t b f) := by
  have hN : cfg0.N = 7 := N_0
  have h6 : 6 < cfg0.N := by omega
  rw [G5_last, ← sum_points (fun n => stepGain m c n b ⟨f.val, by omega⟩) _ (fun n h => stepGain_gate m c n h b f) h6,
    ← sum_points (fun n => stepGain m c n b ⟨2560 + f.val, by omega⟩) _ (fun n h => stepGain_up m c n h b f) h6,
    ← acc_sum m c 5 (by omega) (by omega), ← acc_sum m c 5 (by omega) (by omega)]
  rw [Pipeline.accAt_succ, step_C m c _ _ _ (by decide) (by decide)]

end

end Cert.KernelIdeal.Pieces
-- ==== Proof.Blocks.lean ====
/- The blocks a point works on, read from the arguments. -/
module

public import proofs.«01_k».proof.Proof.Fold
public import Idealize.ShloMosaic.Lib.Pipeline.ValueKit.Point
public import Idealize.ShloMosaic.Lib.Claim

@[expose] public section

set_option maxRecDepth 16384

noncomputable section

namespace Cert.KernelIdeal.Pieces

open Cert.KernelIdeal Cert.KernelIdeal.Gen Cert.KernelIdeal.Value Idealize.ShloMosaic Idealize.ShloMosaic.TcCoe Idealize.SL.Sem
open Idealize.ShloMosaic.Tactic

/-! ## The host's reshapes at an index -/

/-- The reshaped scales at an index: half `h`, step `t`, group `p` is scale row `70 h + 10 t + p`. -/
theorem read_scales (A : Vec Ideal S140x2560 .bf16) (h : Fin 2) (t : Fin 7) (p : Fin 10) (f : Fin 2560) (r : Fin 140)
    (hr : r.val = 70 * h.val + 10 * t.val + p.val) :
    shapeCast S2x7x10x2560 A shapeCasts_S140x2560_S2x7x10x2560 (ix4 h t p f) = A (ix2 r f) := by
  pointwise
  congr 2
  exact Fin.ext (by show h.val * 70 + t.val * 10 + p.val = r.val; omega)

/-- The rearranged activations at an index: column `k` is column `k / 2` of half `k % 2`. -/
theorem read_x (A : Vec Ideal S32x1x17920 .bf16) (b : Fin 32) (k : Fin 17920) (r : Fin 17920)
    (hr : r.val = 8960 * (k.val % 2) + k.val / 2) :
    shapeCast S32x17920 (transpose S32x8960x2 [0, 2, 1] (shapeCast S32x2x8960 A shapeCasts_S32x1x17920_S32x2x8960)
      transposes_S32x2x8960_S32x8960x2_0_2_1) shapeCasts_S32x8960x2_S32x17920 (ix2 b k) = A (ix3 b 0 r) := by
  pointwise
  congr 2
  exact Fin.ext (by show k.val % 2 * 8960 + k.val / 2 = r.val; omega)

/-! ## The products of one point as a stretch of one sum -/

/-- Place `K` of the kernel's contraction at row `b`, column `f`: the packed row is `K / 2`, the nibble and the half of the
    activations and of the scales `K % 2`, the group `K / 256`. -/
def term (X : Vec Ideal S32x1x17920 .bf16) (W : Vec Ideal S8960x2560 .i8) (S : Vec Ideal S140x2560 .bf16) (b : Fin 32) (f : Fin 2560)
    (K : Fin 17920) : EReal :=
  X (ix3 b 0 ⟨8960 * (K.val % 2) + K.val / 2, by omega⟩)
    * (FloatOps.sitofp (F := Ideal) .bf16 (code (W (ix2 ⟨K.val / 2, by omega⟩ f)) (K.val % 2))
      * S (ix2 ⟨70 * (K.val % 2) + K.val / 256, by omega⟩ f))

section

variable (m : (p : Loc nD τ sig) → Buf (Elt Ideal) p) (c : Dev nD)

/-- The block indices of the five inputs at a point. -/
theorem idx_of : ∀ t : Fin cfg0.N, win0_0.index t = ![0, t.val] ∧ win0_1.index t = ![t.val, 0] ∧ win0_2.index t = ![0, t.val, 0, 0]
    ∧ win0_3.index t = ![t.val, 0] ∧ win0_4.index t = ![0, t.val, 0, 0] := by decide

/-- There are seven points. -/
theorem lt7 (t : Fin cfg0.N) : t.val < 7 := lt_of_lt_of_eq t.isLt N_0

/-- The gate's scales as the host hands them over. -/
theorem V3 : V m c main_v3 = shapeCast S2x7x10x2560 (m ((c : Thread nD τ).loc main_arg2)) shapeCasts_S140x2560_S2x7x10x2560 := by
  entry_read
  rfl

/-- The up projection's scales as the host hands them over. -/
theorem V4 : V m c main_v4 = shapeCast S2x7x10x2560 (m ((c : Thread nD τ).loc main_arg4)) shapeCasts_S140x2560_S2x7x10x2560 := by
  entry_read
  rfl

/-- The activations as the host hands them over. -/
theorem V2 : V m c main_v2 = shapeCast S32x17920 (transpose S32x8960x2 [0, 2, 1]
    (shapeCast S32x2x8960 (m ((c : Thread nD τ).loc main_arg0)) shapeCasts_S32x1x17920_S32x2x8960)
    transposes_S32x2x8960_S32x8960x2_0_2_1) shapeCasts_S32x8960x2_S32x17920 := by
  entry_read
  rfl

/-- A point's activations. -/
theorem iblk0 (t : Fin cfg0.N) (b : Fin 32) (k : Fin 2560) (r : Fin 17920)
    (hr : r.val = 8960 * (k.val % 2) + 1280 * t.val + k.val / 2) :
    iblk m c 0 t (ix2 b k) = m ((c : Thread nD τ).loc main_arg0) (ix3 b 0 r) := by
  have hi := (idx_of t).1
  have ht := lt7 t
  have e : iblk m c 0 t (ix2 b k) = V m c main_v2 (ix2 b ⟨2560 * t.val + k.val, by omega⟩) := by
    blk_ext [iblk, hi]
  rw [e, V2]
  exact read_x _ b _ r (by show r.val = 8960 * ((2560 * t.val + k.val) % 2) + (2560 * t.val + k.val) / 2; omega)

/-- A point's packed rows of the gate. -/
theorem iblk1 (t : Fin cfg0.N) (i : Fin 1280) (f : Fin 2560) (r : Fin 8960) (hr : r.val = 1280 * t.val + i.val) :
    iblk m c 1 t (ix2 i f) = m ((c : Thread nD τ).loc main_arg1) (ix2 r f) := by
  have hi := (idx_of t).2.1
  blk_ext [iblk, V, hi]

/-- A point's scales of the gate. -/
theorem iblk2 (t : Fin cfg0.N) (h : Fin 2) (p : Fin 10) (f : Fin 2560) (r : Fin 140) (hr : r.val = 70 * h.val + 10 * t.val + p.val) :
    iblk m c 2 t (ix4 h 0 p f) = m ((c : Thread nD τ).loc main_arg2) (ix2 r f) := by
  have hi := (idx_of t).2.2.1
  have e : iblk m c 2 t (ix4 h 0 p f) = V m c main_v3 (ix4 h ⟨t.val, lt7 t⟩ p f) := by
    blk_ext [iblk, hi]
  rw [e, V3]
  exact read_scales _ h _ p f r hr

/-- A point's packed rows of the up projection. -/
theorem iblk3 (t : Fin cfg0.N) (i : Fin 1280) (f : Fin 2560) (r : Fin 8960) (hr : r.val = 1280 * t.val + i.val) :
    iblk m c 3 t (ix2 i f) = m ((c : Thread nD τ).loc main_arg3) (ix2 r f) := by
  have hi := (idx_of t).2.2.2.1
  blk_ext [iblk, V, hi]

/-- A point's scales of the up projection. -/
theorem iblk4 (t : Fin cfg0.N) (h : Fin 2) (p : Fin 10) (f : Fin 2560) (r : Fin 140) (hr : r.val = 70 * h.val + 10 * t.val + p.val) :
    iblk m c 4 t (ix4 h 0 p f) = m ((c : Thread nD τ).loc main_arg4) (ix2 r f) := by
  have hi := (idx_of t).2.2.2.2
  have e : iblk m c 4 t (ix4 h 0 p f) = V m c main_v4 (ix4 h ⟨t.val, lt7 t⟩ p f) := by
    blk_ext [iblk, hi]
  rw [e, V4]
  exact read_scales _ h _ p f r hr

/-- What a point adds to the gate, as its stretch of the whole contraction. -/
theorem gateGain_eq (t : Fin cfg0.N) (b : Fin 32) (f : Fin 2560) :
    gateGain m c t b f = ∑ k : Fin 2560, term (m ((c : Thread nD τ).loc main_arg0)) (m ((c : Thread nD τ).loc main_arg1))
      (m ((c : Thread nD τ).loc main_arg2)) b f ⟨2560 * t.val + k.val, by have := lt7 t; omega⟩ := by
  have ht := lt7 t
  unfold gateGain gainAt weight term
  refine Finset.sum_congr rfl fun k _ => ?_
  have e1 : (2560 * t.val + k.val) % 2 = k.val % 2 := by omega
  have e2 : (2560 * t.val + k.val) / 2 = 1280 * t.val + k.val / 2 := by omega
  have e3 : (2560 * t.val + k.val) / 256 = 10 * t.val + k.val / 256 := by omega
  rw [iblk0 m c t b k ⟨8960 * (k.val % 2) + (1280 * t.val + k.val / 2), by omega⟩ (Nat.add_assoc _ _ _).symm,
    iblk1 m c t _ f ⟨1280 * t.val + k.val / 2, by omega⟩ rfl,
    iblk2 m c t _ _ f ⟨70 * (k.val % 2) + (10 * t.val + k.val / 256), by omega⟩ (Nat.add_assoc _ _ _).symm]
  simp only [e1, e2, e3]

/-- What a point adds to the up projection, as its stretch of the whole contraction. -/
theorem upGain_eq (t : Fin cfg0.N) (b : Fin 32) (f : Fin 2560) :
    upGain m c t b f = ∑ k : Fin 2560, term (m ((c : Thread nD τ).loc main_arg0)) (m ((c : Thread nD τ).loc main_arg3))
      (m ((c : Thread nD τ).loc main_arg4)) b f ⟨2560 * t.val + k.val, by have := lt7 t; omega⟩ := by
  have ht := lt7 t
  unfold upGain gainAt weight term
  refine Finset.sum_congr rfl fun k _ => ?_
  have e1 : (2560 * t.val + k.val) % 2 = k.val % 2 := by omega
  have e2 : (2560 * t.val + k.val) / 2 = 1280 * t.val + k.val / 2 := by omega
  have e3 : (2560 * t.val + k.val) / 256 = 10 * t.val + k.val / 256 := by omega
  rw [iblk0 m c t b k ⟨8960 * (k.val % 2) + (1280 * t.val + k.val / 2), by omega⟩ (Nat.add_assoc _ _ _).symm,
    iblk3 m c t _ f ⟨1280 * t.val + k.val / 2, by omega⟩ rfl,
    iblk4 m c t _ _ f ⟨70 * (k.val % 2) + (10 * t.val + k.val / 256), by omega⟩ (Nat.add_assoc _ _ _).symm]
  simp only [e1, e2, e3]

end

end Cert.KernelIdeal.Pieces
-- ==== Proof.Reference.lean ====
/- The reference's result at an index over the extended reals. -/
module

public import proofs.«01_k».proof.Proof.Gen.ReferenceIdeal.Run
public import Idealize.ShloMosaic.PureOps.Ideal
public import Idealize.ShloMosaic.Lib.Pointwise

@[expose] public section

set_option maxRecDepth 16384

noncomputable section

namespace Cert.ReferenceIdeal.Terms

open Cert.ReferenceIdeal Cert.ReferenceIdeal.Gen Cert.ReferenceIdeal.Value Idealize.ShloMosaic Idealize.ShloMosaic.TcCoe Idealize.SL.Sem
open Idealize.ShloMosaic.Tactic

/-- Half the weights dequantized: its codes less eight, times each group's scale row. -/
def dequant (q : IVec S8960x2560 32) (s : FVec Ideal S70x2560 .bf16) : FVec Ideal S8960x2560 .bf16 :=
  shapeCast S8960x2560 (mulf (shapeCast S70x128x2560 (subf (sitofp .bf16 q)
    (broadcastInDim S8960x2560 ![] bcast_S_S8960x2560 (constant S_ .bf16 0x4100#16))) shapeCasts_S8960x2560_S70x128x2560)
    (broadcastInDim S70x128x2560 ![0, 1, 2] bcast_S70x1x2560_S70x128x2560_0_1_2
      (broadcastInDim S70x1x2560 ![0, 2] bcast_S70x2560_S70x1x2560_0_2 s))) shapeCasts_S70x128x2560_S8960x2560

/-- A projection: the two halves of the activations times the two halves of the weights. -/
def proj (X : FVec Ideal S32x1x17920 .bf16) (W : IVec S8960x2560 8) (S : FVec Ideal S140x2560 .bf16) : FVec Ideal S32x1x2560 .f32 :=
  addf (Host.dotGeneral dot_S32x1x8960_S8960x2560_S32x1x2560_2_0_01_1_n_n none
      (extractStridedSlice S32x1x8960 ![0, 0, 0] X slices_S32x1x17920_S32x1x8960_0_0_0)
      (dequant (andi (extui 32 W natLt_8_32) (broadcastInDim S8960x2560 ![] bcast_S_S8960x2560 (constantI S_ 32 15#32)))
        (extractStridedSlice S70x2560 ![0, 0] S slices_S140x2560_S70x2560_0_0)))
    (Host.dotGeneral dot_S32x1x8960_S8960x2560_S32x1x2560_2_0_01_1_n_n none
      (extractStridedSlice S32x1x8960 ![0, 0, 8960] X slices_S32x1x17920_S32x1x8960_0_0_8960)
      (dequant (Host.shrsi (extui 32 W natLt_8_32) (broadcastInDim S8960x2560 ![] bcast_S_S8960x2560 (constantI S_ 32 4#32)))
        (extractStridedSlice S70x2560 ![70, 0] S slices_S140x2560_S70x2560_70_0)))

/-- The gate passed through the logistic function, times the up projection. -/
def gated (g u : FVec Ideal S32x1x2560 .f32) : FVec Ideal S32x2560 .bf16 :=
  shapeCast S32x2560 (truncf .bf16 (mulf (mulf g (Host.divf (broadcastInDim S32x1x2560 ![] bcast_S_S32x1x2560 (constant S_ .f32 0x3F800000#32))
    (addf (broadcastInDim S32x1x2560 ![] bcast_S_S32x1x2560 (constant S_ .f32 0x3F800000#32)) (Host.exp (Host.negf g))))) u)
    bitsLt_bf16_f32) shapeCasts_S32x1x2560_S32x2560

/-- The reference's result is the gated product of its two projections. -/
theorem res_eq (m : (p : Loc nD τ sig) → Buf (Elt Ideal) p) (c : Dev nD) :
    res_main_v59 m c = gated
      (proj (m ((c.tc : Thread nD τ).loc main_arg0)) (m ((c.tc : Thread nD τ).loc main_arg1)) (m ((c.tc : Thread nD τ).loc main_arg2)))
      (proj (m ((c.tc : Thread nD τ).loc main_arg0)) (m ((c.tc : Thread nD τ).loc main_arg3)) (m ((c.tc : Thread nD τ).loc main_arg4))) := by
  unfold res_main_v59 gated proj dequant
  rfl

/-- A dequantized weight at an index. -/
theorem dequant_apply (q : IVec S8960x2560 32) (s : FVec Ideal S70x2560 .bf16) (r : Fin 8960) (f : Fin 2560) :
    dequant q s (ix2 r f) = (FloatOps.sitofp (F := Ideal) .bf16 (q (ix2 r f)) - Ideal.ofBits .bf16 0x4100#16) * s (ix2 ⟨r.val / 128, by omega⟩ f) := by
  unfold dequant
  pointwise

/-- A projection at an index: the low codes with the first half of the activations and scales, and the high codes with the
    second. -/
theorem proj_apply (X : FVec Ideal S32x1x17920 .bf16) (W : IVec S8960x2560 8) (S : FVec Ideal S140x2560 .bf16) (b : Fin 32) (f : Fin 2560) :
    proj X W S (ix3 b 0 f) = (∑ r : Fin 8960, X (ix3 b 0 ⟨r.val, by omega⟩)
        * ((FloatOps.sitofp (F := Ideal) .bf16 (IntOp.andi (BitVec.setWidth 32 (W (ix2 r f))) 15#32) - Ideal.ofBits .bf16 0x4100#16)
          * S (ix2 ⟨r.val / 128, by omega⟩ f)))
      + ∑ r : Fin 8960, X (ix3 b 0 ⟨8960 + r.val, by omega⟩)
        * ((FloatOps.sitofp (F := Ideal) .bf16 (IntOp.shrsi ArithUnit.host (BitVec.setWidth 32 (W (ix2 r f))) 4#32)
          - Ideal.ofBits .bf16 0x4100#16) * S (ix2 ⟨70 + r.val / 128, by omega⟩ f)) := by
  unfold proj
  pointwise [dequant_apply]

/-- The result at an index. -/
theorem gated_apply (g u : FVec Ideal S32x1x2560 .f32) (b : Fin 32) (f : Fin 2560) :
   gated g u (ix2 b f) = g (ix3 b 0 f) * Ideal.logistic (g (ix3 b 0 f)) * u (ix3 b 0 f) := by
  unfold gated
  pointwise
  rfl

end Cert.ReferenceIdeal.Terms
-- ==== Proof.Agree.lean ====
/- The kernel's result and the reference's are one array: the same products, summed in another order. -/
module

public import proofs.«01_k».proof.Proof.Blocks
public import proofs.«01_k».proof.Proof.Reference
public import Idealize.ShloMosaic.Lib.IdealHost

@[expose] public section

set_option maxRecDepth 16384

noncomputable section

namespace Cert.Agree

open Idealize.ShloMosaic Idealize.ShloMosaic.TcCoe Idealize.SL.Sem
open Cert.KernelIdeal Cert.KernelIdeal.Gen Cert.KernelIdeal.Pieces Cert.ReferenceIdeal.Terms

/-! ## One code -/

/-- The bf16 pattern `0x4100` is the real eight. -/
theorem ofBits_eight : Ideal.ofBits .bf16 0x4100#16 = ((8 : ℝ) : EReal) := by
  simp [Ideal.ofBits, Ideal.ieee, -EReal.coe_mul]; norm_num

/-- The low nibble with its top bit flipped, read as a signed number, is the low nibble less eight. -/
theorem code_low : ∀ w : BitVec 8, (code w 0).toInt = (IntOp.andi (BitVec.setWidth 32 w) 15#32).toInt - 8 := by decide

/-- The high nibble with its top bit flipped, read as a signed number, is the high nibble less eight. -/
theorem code_high : ∀ w : BitVec 8,
    (code w 1).toInt = (IntOp.shrsi ArithUnit.host (BitVec.setWidth 32 w) 4#32).toInt - 8 := by decide

/-- A signed code less eight, as extended reals. -/
theorem sitofp_eq (a : BitVec 4) (q : BitVec 32) (h : a.toInt = q.toInt - 8) :
    FloatOps.sitofp (F := Ideal) .bf16 a = FloatOps.sitofp (F := Ideal) .bf16 q - Ideal.ofBits .bf16 0x4100#16 := by
  rw [ofBits_eight]
  show ((a.toInt : ℝ) : EReal) = ((q.toInt : ℝ) : EReal) - ((8 : ℝ) : EReal)
  rw [h, ← EReal.coe_sub]
  push_cast
  rfl

/-! ## The order of the sum -/

/-- A sum taken in seven stretches of 2560 places is the sum of the even places plus the sum of the odd ones. -/
theorem sum_halves (g : Fin 17920 → EReal) (N : ℕ) (hN : N = 7) :
    ∑ t : Fin N, ∑ k : Fin 2560, g ⟨2560 * t.val + k.val, by omega⟩
      = ∑ r : Fin 8960, g ⟨2 * r.val, by omega⟩ + ∑ r : Fin 8960, g ⟨2 * r.val + 1, by omega⟩ := by
  subst hN
  let G : ℕ → EReal := fun n => if h : n < 17920 then g ⟨n, h⟩ else 0
  have hG (n : ℕ) (h : n < 17920) : g ⟨n, h⟩ = G n := by
    simp only [G, dif_pos h]
  simp only [hG]
  have e1 : ∑ t : Fin 7, ∑ k : Fin 2560, G (2560 * t.val + k.val) = ∑ l : Fin 17920, G l.val := by
    have e := Fin.sum_univ_univ_mul_add (S := 7) 2560 G
    simp only [Nat.mul_comm _ 2560] at e
    exact e
  have e2 : ∑ r : Fin 8960, ∑ h : Fin 2, G (2 * r.val + h.val) = ∑ l : Fin 17920, G l.val := by
    have e := Fin.sum_univ_univ_mul_add (S := 8960) 2 G
    simp only [Nat.mul_comm _ 2] at e
    exact e
  rw [e1, ← e2, ← Finset.sum_add_distrib]
  refine Finset.sum_congr rfl fun r _ => ?_
  rw [Fin.sum_univ_two]
  rfl

/-! ## One projection -/

/-- The kernel's stretches add up to the reference's projection. -/
theorem sum_term (X : FVec Ideal S32x1x17920 .bf16) (W : IVec S8960x2560 8) (S : FVec Ideal S140x2560 .bf16) (b : Fin 32) (f : Fin 2560)
    (N : ℕ) (hN : N = 7) :
    ∑ t : Fin N, ∑ k : Fin 2560, term X W S b f ⟨2560 * t.val + k.val, by omega⟩ = proj X W S (ix3 b 0 f) := by
  rw [sum_halves _ N hN, proj_apply]
  refine congrArg₂ (· + ·) (Finset.sum_congr rfl fun r _ => ?_) (Finset.sum_congr rfl fun r _ => ?_)
  · have e1 : 2 * r.val % 2 = 0 := by omega
    have e2 : 2 * r.val / 2 = r.val := by omega
    have e3 : 2 * r.val / 256 = r.val / 128 := by omega
    unfold term
    simp only [e1, e2, e3, Nat.mul_zero, Nat.zero_add]
    rw [sitofp_eq _ _ (code_low _)]
  · have e1 : (2 * r.val + 1) % 2 = 1 := by omega
    have e2 : (2 * r.val + 1) / 2 = r.val := by omega
    have e3 : (2 * r.val + 1) / 256 = r.val / 128 := by omega
    unfold term
    simp only [e1, e2, e3, Nat.mul_one]
    rw [sitofp_eq _ _ (code_high _)]

/-! ## The results -/

variable (m : (ℓ : Loc Cert.KernelIdeal.nD Cert.KernelIdeal.τ Cert.KernelIdeal.sig) → Buf (Elt Ideal) ℓ)

/-- The kernel's result is the reference's expression of the kernel's own arguments. -/
theorem result_eq (c : Dev Cert.KernelIdeal.nD) :
    Cert.KernelIdeal.Value.G5 m c = gated
      (proj (m ((c : Thread nD τ).loc main_arg0)) (m ((c : Thread nD τ).loc main_arg1)) (m ((c : Thread nD τ).loc main_arg2)))
      (proj (m ((c : Thread nD τ).loc main_arg0)) (m ((c : Thread nD τ).loc main_arg3)) (m ((c : Thread nD τ).loc main_arg4))) := by
  funext i
  obtain ⟨b, f, rfl⟩ : ∃ (b : Fin 32) (f : Fin 2560), i = ix2 b f := ⟨_, _, eq_ix2 i⟩
  refine (G5_apply m c b f).trans (Eq.trans ?_ (gated_apply _ _ b f).symm)
  unfold swiglu
  rw [← sum_term _ _ _ b f cfg0.N N_0, ← sum_term _ _ _ b f cfg0.N N_0,
    Finset.sum_congr rfl fun t _ => gateGain_eq m c t b f, Finset.sum_congr rfl fun t _ => upGain_eq m c t b f]

end Cert.Agree
-- ==== Proof.lean ====
/- The claims of `Cert.Claim` proved: the kernel, the idealized kernel and the idealized reference run and leave their
   arguments unchanged; the idealization is the sanctioned one; and the kernel's result is the reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Agree
public import Idealize.ShloMosaic.Adequacy
public import Idealize.ShloMosaic.Lib.Quiescent
public import Idealize.ShloMosaic.Lib.Bf16Pair
public import Idealize.ShloMosaic.Init

@[expose] public section

noncomputable section

namespace Cert.Proof

open Idealize.ShloMosaic Idealize.SL.Sem

/-- The kernel as printed runs on every input, leaves its arguments alone and its counters at zero. -/
theorem frame_kernel : Cert.quiescent_Kernel := fun m g _ => Cert.Kernel.Gen.frame m g

/-- The same for the idealized kernel. -/
theorem frame_kernelIdeal : Cert.quiescent_KernelIdeal := fun m g _ => Cert.KernelIdeal.Gen.frame m g

/-- The same for the idealized reference, which is host code alone and declares no semaphore. -/
theorem frame_referenceIdeal : Cert.quiescent_ReferenceIdeal := by
  intro m g _
  exact (θ_run Cert.ReferenceIdeal.defs _ _).mono
    (fun r h => ⟨fun c => (h c).2, Idealize.ShloMosaic.sem_eq_zero_of_no_sems (by decide) r.2⟩)
    (Cert.ReferenceIdeal.Value.run (F := Ideal) m g)

/-- The kernel's scale words are pairs of bf16 numbers: reading them as interleaved rows is what the rewrite states. -/
theorem preserves : Cert.preserves_Kernel_KernelIdeal :=
  ⟨IdealRules.bf16_pair.halfStatement _, IdealRules.bf16_pair.statement _ _⟩

/-- In exact arithmetic, from the same arguments, the kernel and the reference end with the same result. -/
theorem algebraic : Cert.algebraic_KernelIdeal_ReferenceIdeal := by
  intro m g m' g' _ h
  refine ⟨fun c => Cert.KernelIdeal.Value.G5 m c, Cert.KernelIdeal.Value.run (F := Ideal) m g, ?_⟩
  refine (θ_run Cert.ReferenceIdeal.defs _ _).mono (fun r hr c => ⟨(hr c).1.trans ?_, (hr c).2⟩)
    (Cert.ReferenceIdeal.Value.run (F := Ideal) m' g')
  obtain ⟨h0, h1, h2, h3, h4⟩ := h c
  refine Eq.trans ?_ (Cert.Agree.result_eq m c).symm
  rw [Cert.ReferenceIdeal.Terms.res_eq m' c, h0, h1, h2, h3, h4]

/-- All the claims. -/
theorem claim : Cert.Claim :=
  ⟨Cert.Kernel.Gen.facts, Cert.KernelIdeal.Gen.facts, Cert.ReferenceIdeal.Gen.facts,
    frame_kernel, frame_kernelIdeal, frame_referenceIdeal, preserves, algebraic⟩

end Cert.Proof

end
